-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32768x2 : Shape := ⟨2, ![32768, 2]⟩
abbrev S32768 : Shape := ⟨1, ![32768]⟩
abbrev S32x2 : Shape := ⟨2, ![32, 2]⟩
abbrev S_ : Shape := ⟨0, ![]⟩

class Facts : Prop where
  bcast_S_S32768x2 : S_.BroadcastsInDim S32768x2 (![] : Fin 0 → Fin S32768x2.rank)
  reducesTo_S32768x2_S_d0_1 : S32768x2.ReducesTo [0, 1] S_
  h_S_ : 0 < S_.numel
  bcast_S_S32x2 : S_.BroadcastsInDim S32x2 (![] : Fin 0 → Fin S32x2.rank)
  reducesTo_S32x2_S_d0_1 : S32x2.ReducesTo [0, 1] S_

variable [Facts]

def fn {F : FTy → Type} [FloatOps F] (main_arg0 : FVec F S32768x2 .f32) (main_arg1 : IVec S32768 32) (main_arg2 : FVec F S32x2 .f32) : IVec S_ 1 :=
  let main_v0 : FVec F S32768x2 .f32 := Host.absf main_arg0
  let main_cst : FVec F S_ .f32 := constant S_ .f32 0x7F800000#32
  let main_v1 : FVec F S32768x2 .f32 := broadcastInDim S32768x2 ![] bcast_S_S32768x2 main_cst
  let main_v2 : IVec S32768x2 1 := cmpf .olt main_v0 main_v1
  let main_c : IVec S_ 1 := constantI S_ 1 1#1
  let main_v3 : IVec S_ 1 := (fun x v => Host.reduce IntOp.andi x v reducesTo_S32768x2_S_d0_1 h_S_) main_v2 main_c
  let main_v4 : FVec F S32x2 .f32 := Host.absf main_arg2
  let main_cst_0 : FVec F S_ .f32 := constant S_ .f32 0x7F800000#32
  let main_v5 : FVec F S32x2 .f32 := broadcastInDim S32x2 ![] bcast_S_S32x2 main_cst_0
  let main_v6 : IVec S32x2 1 := cmpf .olt main_v4 main_v5
  let main_c_1 : IVec S_ 1 := constantI S_ 1 1#1
  let main_v7 : IVec S_ 1 := (fun x v => Host.reduce IntOp.andi x v reducesTo_S32x2_S_d0_1 h_S_) main_v6 main_c_1
  let main_v8 : IVec S_ 1 := andi main_v3 main_v7
  main_v8
-- ==== Kernel.lean ====
abbrev S32768x2 : Shape := ⟨2, ![32768, 2]⟩
abbrev S32768 : Shape := ⟨1, ![32768]⟩
abbrev S32x2 : Shape := ⟨2, ![32, 2]⟩
abbrev S_ : Shape := ⟨0, ![]⟩
abbrev S31 : Shape := ⟨1, ![31]⟩
abbrev S1 : Shape := ⟨1, ![1]⟩
abbrev S32 : Shape := ⟨1, ![32]⟩
abbrev S32x32 : Shape := ⟨2, ![32, 32]⟩
abbrev S1024 : Shape := ⟨1, ![1024]⟩
abbrev S1x1024 : Shape := ⟨2, ![1, 1024]⟩
abbrev S1x32768 : Shape := ⟨2, ![1, 32768]⟩
abbrev S16x32x32 : Shape := ⟨3, ![16, 32, 32]⟩
abbrev S8192x2 : Shape := ⟨2, ![8192, 2]⟩
abbrev S1x8192 : Shape := ⟨2, ![1, 8192]⟩
abbrev S16x1024 : Shape := ⟨2, ![16, 1024]⟩
abbrev S8192x32 : Shape := ⟨2, ![8192, 32]⟩
abbrev S16x8192 : Shape := ⟨2, ![16, 8192]⟩
abbrev S16 : Shape := ⟨1, ![16]⟩
abbrev S16x1 : Shape := ⟨2, ![16, 1]⟩
abbrev S2048x32 : Shape := ⟨2, ![2048, 32]⟩
abbrev S2048x1024 : Shape := ⟨2, ![2048, 1024]⟩
abbrev S16x2048 : Shape := ⟨2, ![16, 2048]⟩

abbrev nBuf : Space → Nat
  | .hbm => 38
  | .vmem => 9
  | .smem => 0
  | _ => 0

abbrev bufTy : (tb : Table) → Fin (tcTables nBuf tb) → BufTy
  | .hbm, ⟨0, _⟩ => ⟨S32768x2, .f32⟩
  | .hbm, ⟨1, _⟩ => ⟨S32768, .i32⟩
  | .hbm, ⟨2, _⟩ => ⟨S32x2, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S31, .f32⟩
  | .hbm, ⟨11, _⟩ => ⟨S_, .f32⟩
  | .hbm, ⟨12, _⟩ => ⟨S31, .f32⟩
  | .hbm, ⟨13, _⟩ => ⟨S31, .f32⟩
  | .hbm, ⟨14, _⟩ => ⟨S1, .f32⟩
  | .hbm, ⟨15, _⟩ => ⟨S_, .f32⟩
  | .hbm, ⟨16, _⟩ => ⟨S31, .f32⟩
  | .hbm, ⟨17, _⟩ => ⟨S31, .f32⟩
  | .hbm, ⟨18, _⟩ => ⟨S31, .f32⟩
  | .hbm, ⟨19, _⟩ => ⟨S31, .f32⟩
  | .hbm, ⟨20, _⟩ => ⟨S1, .f32⟩
  | .hbm, ⟨21, _⟩ => ⟨S31, .f32⟩
  | .hbm, ⟨22, _⟩ => ⟨S31, .f32⟩
  | .hbm, ⟨23, _⟩ => ⟨S31, .f32⟩
  | .hbm, ⟨24, _⟩ => ⟨S1, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32x32, .f32⟩
  | .hbm, ⟨30, _⟩ => ⟨S1024, .f32⟩
  | .hbm, ⟨31, _⟩ => ⟨S1x1024, .f32⟩
  | .hbm, ⟨32, _⟩ => ⟨S1x1024, .bf16⟩
  | .hbm, ⟨33, _⟩ => ⟨S1x1024, .f32⟩
  | .hbm, ⟨34, _⟩ => ⟨S1x1024, .f32⟩
  | .hbm, ⟨35, _⟩ => ⟨S1x1024, .bf16⟩
  | .hbm, ⟨36, _⟩ => ⟨S1x32768, .i32⟩
  | .hbm, ⟨37, _⟩ => ⟨S16x32x32, .f32⟩
  | .local _ .vmem, ⟨0, _⟩ => ⟨S8192x2, .f32⟩
  | .local _ .vmem, ⟨1, _⟩ => ⟨S8192x2, .f32⟩
  | .local _ .vmem, ⟨2, _⟩ => ⟨S1x8192, .i32⟩
  | .local _ .vmem, ⟨3, _⟩ => ⟨S1x8192, .i32⟩
  | .local _ .vmem, ⟨4, _⟩ => ⟨S32x2, .f32⟩
  | .local _ .vmem, ⟨5, _⟩ => ⟨S1x1024, .bf16⟩
  | .local _ .vmem, ⟨6, _⟩ => ⟨S1x1024, .bf16⟩
  | .local _ .vmem, ⟨7, _⟩ => ⟨S16x32x32, .f32⟩
  | .local _ .vmem, ⟨8, _⟩ => ⟨S16x1024, .f32⟩
  | _, _ => ⟨S32768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_cst_0 : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_cst : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_cst_0 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_cst_1 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_call0_v12 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_v15 : Ref sig .tc := ⟨.hbm, 23, rfl⟩
abbrev main_call0_call0_v16 : Ref sig .tc := ⟨.hbm, 24, rfl⟩
abbrev main_call0_v0 : Ref sig .tc := ⟨.hbm, 25, rfl⟩
abbrev main_call0_cst_1 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_v0 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v85 : BitVec 1 := Scalar.cmpi .eq arg0 c3_i32
  let v86 : BitVec 32 := Scalar.extui v85
  let c0_i32_34 : BitVec 32 := 0#32
  let v87 : BitVec 1 := Scalar.cmpi .ne v86 c0_i32_34
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S32768x2 : Shape := ⟨2, ![32768, 2]⟩
abbrev S32768 : Shape := ⟨1, ![32768]⟩
abbrev S32x2 : Shape := ⟨2, ![32, 2]⟩
abbrev S2x32 : Shape := ⟨2, ![2, 32]⟩
abbrev S32768x32 : Shape := ⟨2, ![32768, 32]⟩
abbrev S_ : Shape := ⟨0, ![]⟩
abbrev S31 : Shape := ⟨1, ![31]⟩
abbrev S1 : Shape := ⟨1, ![1]⟩
abbrev S32 : Shape := ⟨1, ![32]⟩
abbrev S32x1x1 : Shape := ⟨3, ![32, 1, 1]⟩
abbrev S1x32768x32 : Shape := ⟨3, ![1, 32768, 32]⟩
abbrev S32x32768x32 : Shape := ⟨3, ![32, 32768, 32]⟩
abbrev S32768x32x32 : Shape := ⟨3, ![32768, 32, 32]⟩
abbrev S16x32x32 : Shape := ⟨3, ![16, 32, 32]⟩
abbrev S32768x1 : Shape := ⟨2, ![32768, 1]⟩

abbrev nBuf : Space → Nat
  | .hbm => 49
  | .vmem => 0
  | .smem => 0
  | _ => 0

abbrev bufTy : (tb : Table) → Fin (tcTables nBuf tb) → BufTy
  | .hbm, ⟨0, _⟩ => ⟨S32768x2, .f32⟩
  | .hbm, ⟨1, _⟩ => ⟨S32768, .i32⟩
  | .hbm, ⟨2, _⟩ => ⟨S32x2, .f32⟩
  | .hbm, ⟨3, _⟩ => ⟨S2x32, .f32⟩
  | .hbm, ⟨4, _⟩ => ⟨S32768x32, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S31, .f32⟩
  | .hbm, ⟨13, _⟩ => ⟨S_, .f32⟩
  | .hbm, ⟨14, _⟩ => ⟨S31, .f32⟩
  | .hbm, ⟨15, _⟩ => ⟨S31, .f32⟩
  | .hbm, ⟨16, _⟩ => ⟨S1, .f32⟩
  | .hbm, ⟨17, _⟩ => ⟨S_, .f32⟩
  | .hbm, ⟨18, _⟩ => ⟨S31, .f32⟩
  | .hbm, ⟨19, _⟩ => ⟨S31, .f32⟩
  | .hbm, ⟨20, _⟩ => ⟨S31, .f32⟩
  | .hbm, ⟨21, _⟩ => ⟨S31, .f32⟩
  | .hbm, ⟨22, _⟩ => ⟨S1, .f32⟩
  | .hbm, ⟨23, _⟩ => ⟨S31, .f32⟩
  | .hbm, ⟨24, _⟩ => ⟨S31, .f32⟩
  | .hbm, ⟨25, _⟩ => ⟨S31, .f32⟩
  | .hbm, ⟨26, _⟩ => ⟨S1, .f32⟩
  | .hbm, ⟨27, _⟩ => ⟨S32, .f32⟩
  | .hbm, ⟨28, _⟩ => ⟨S32x1x1, .f32⟩
  | .hbm, ⟨29, _⟩ => ⟨S1x32768x32, .f32⟩
  | .hbm, ⟨30, _⟩ => ⟨S32x32768x32, .f32⟩
  | .hbm, ⟨31, _⟩ => ⟨S32x32768x32, .f32⟩
  | .hbm, ⟨32, _⟩ => ⟨S32x32768x32, .f32⟩
  | .hbm, ⟨33, _⟩ => ⟨S_, .f32⟩
  | .hbm, ⟨34, _⟩ => ⟨S32x32768x32, .f32⟩
  | .hbm, ⟨35, _⟩ => ⟨S32x32768x32, .f32⟩
  | .hbm, ⟨36, _⟩ => ⟨S32x32768x32, .f32⟩
  | .hbm, ⟨37, _⟩ => ⟨S32x32768x32, .f32⟩
  | .hbm, ⟨38, _⟩ => ⟨S_, .f32⟩
  | .hbm, ⟨39, _⟩ => ⟨S32x32768x32, .f32⟩
  | .hbm, ⟨40, _⟩ => ⟨S32x32768x32, .f32⟩
  | .hbm, ⟨41, _⟩ => ⟨S_, .f32⟩
  | .hbm, ⟨42, _⟩ => ⟨S32x32768x32, .f32⟩
  | .hbm, ⟨43, _⟩ => ⟨S32x32768x32, .f32⟩
  | .hbm, ⟨44, _⟩ => ⟨S32768x32x32, .f32⟩
  | .hbm, ⟨45, _⟩ => ⟨S_, .f32⟩
  | .hbm, ⟨46, _⟩ => ⟨S16x32x32, .f32⟩
  | .hbm, ⟨47, _⟩ => ⟨S32768x1, .i32⟩
  | .hbm, ⟨48, _⟩ => ⟨S16x32x32, .f32⟩
  | _, _ => ⟨S32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_cst_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩

abbrev nD : Nat := 1
abbrev τ : Topo := Topo.v7x

variable {F : FTy → Type} [FloatOps F]
-- ==== Proof.Math.lean ====
/- Facts about the real numbers that the proof needs, with nothing of either program in them: the logistic function as
   half a hyperbolic tangent, coercions of finite sums into the extended reals, and sums cut into equal stretches. -/
module

public import Idealize.ShloMosaic.PureOps.Ideal

@[expose] public section

noncomputable section

namespace Cert.Reals

/-- The logistic function of `z`. -/
def sigma (z : ℝ) : ℝ := 1 / (1 + Real.exp (-z))

/-- Half the hyperbolic tangent of `y`, plus a half, is the logistic function of `2 y`. -/
theorem half_tanh_add_half (y : ℝ) : 1 / 2 * Real.tanh y + 1 / 2 = sigma (2 * y) := by
  unfold sigma
  have h1 : Real.exp y * Real.exp (-y) = 1 := by rw [← Real.exp_add]; simp
  have h2 : Real.exp (-(2 * y)) = Real.exp (-y) * Real.exp (-y) := by rw [← Real.exp_add]; congr 1; ring
  have hp := Real.exp_pos y
  have hn := Real.exp_pos (-y)
  rw [Real.tanh_eq_sinh_div_cosh, Real.sinh_eq, Real.cosh_eq, h2]
  have hs : Real.exp y + Real.exp (-y) ≠ 0 := by positivity
  have hd : 1 + Real.exp (-y) * Real.exp (-y) ≠ 0 := by positivity
  field_simp
  nlinarith [h1]

/-- A finite sum of reals, read in the extended reals, is the sum of the terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `4 K` terms is the sum of its four stretches of `K` terms. -/
theorem sum_four (K : ℕ) (f : ℕ → ℝ) :
    ∑ n ∈ Finset.range (4 * K), f n
      = ((∑ k ∈ Finset.range K, f k + ∑ k ∈ Finset.range K, f (K + k)) + ∑ k ∈ Finset.range K, f (2 * K + k))
        + ∑ k ∈ Finset.range K, f (3 * K + k) := by
  rw [show 4 * K = K + K + K + K by ring, Finset.sum_range_add, Finset.sum_range_add, Finset.sum_range_add,
    show K + K = 2 * K by ring, show 2 * K + K = 3 * K by ring]

end Cert.Reals

end
-- ==== Proof.Block.lean ====
/- What one grid point of the kernel computes, read at an index: the heights' product with the directions, the one-hot rows,
   one chunk's tile of hyperbolic tangents and its product with the one-hot rows, and the sum the point adds onto the
   accumulator. Everything here is about the body's pure values; no memory is mentioned. -/
module

public import proofs.«01_k».proof.Proof.Gen.KernelIdeal.Skeleton
public import proofs.«01_k».proof.Proof.Math
public import Idealize.ShloMosaic.Lib.Pointwise
public import Idealize.ShloMosaic.Lib.Pipeline.Value
public import Idealize.ShloMosaic.Lib.MatmulPlain
public import Idealize.ShloMosaic.Lib.ValueIdx

@[expose] public section

set_option maxRecDepth 16384

noncomputable section

namespace Cert.KernelIdeal.Ect

open Idealize.ShloMosaic Cert.KernelIdeal Cert.KernelIdeal.Gen Cert.KernelIdeal.Facts

/-- One chunk's rows laid side by side 32 times, once for each height. -/
def tile (w : FVec Ideal S2048x32 .bf16) : FVec Ideal S2048x1024 .bf16 :=
  concatenate S2048x1024 1 (List.replicate 32 ⟨S2048x32, w⟩) concatenates_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x32_S2048x1024_d1

/-- Column `j` of the tile is column `j mod 32` of the chunk. -/
theorem tile_apply (w : FVec Ideal S2048x32 .bf16) (k : Fin 2048) (j : Fin 1024) :
    tile w (ix2 k j) = w (ix2 k (⟨j.val % 32, Nat.mod_lt _ (by decide)⟩ : Fin 32)) := by
  unfold tile
  refine concatenate_replicate_apply (t := S2048x1024) (s₁ := S2048x32) (1 : Fin 2) 32 w _ rfl (ix2 k j) _ rfl ?_
  intro b hb
  match b with
  | ⟨0, _⟩ => rfl
  | ⟨1, _⟩ => exact absurd rfl hb

/-- One chunk of the point's rows, `o` rows into the block: the tile, plus the two parts of the scaled heights, through the
    hyperbolic tangent. -/
def chunkTanh (nh : FVec Ideal S8192x32 .bf16) (o : ℕ) (ho : S8192x32.Slices ![o, 0] S2048x32) (l1 l2 : Vec Ideal S1x1024 .bf16) :
    FVec Ideal S2048x1024 .bf16 :=
  tanh (addf (addf (tile (extractStridedSlice S2048x32 ![o, 0] nh ho)) (broadcastTo S2048x1024 l1 broadcasts_S1x1024_S2048x1024))
    (broadcastTo S2048x1024 l2 broadcasts_S1x1024_S2048x1024))

/-- That chunk's product with the one-hot rows. -/
def chunkDot (oh : FVec Ideal S16x8192 .bf16) (nh : FVec Ideal S8192x32 .bf16) (o : ℕ) (hs : S16x8192.Slices ![0, o] S16x2048)
    (ho : S8192x32.Slices ![o, 0] S2048x32) (l1 l2 : Vec Ideal S1x1024 .bf16) : FVec Ideal S16x1024 .f32 :=
  matmul (F := Ideal) dot_S16x2048_S2048x1024_S16x1024_1_0_0_1_n_n none (extractStridedSlice S16x2048 ![0, o] oh hs) (chunkTanh nh o ho l1 l2)
    (constant S16x1024 .f32 0x00000000#32)

/-- The chunk's tangents at an index. -/
theorem chunkTanh_apply (nh : FVec Ideal S8192x32 .bf16) (o : ℕ) (hb : o + 2048 ≤ 8192) (ho : S8192x32.Slices ![o, 0] S2048x32)
    (l1 l2 : Vec Ideal S1x1024 .bf16) (k : Fin 2048) (j : Fin 1024) :
    chunkTanh nh o ho l1 l2 (ix2 k j)
      = Ideal.tanh (nh (ix2 (⟨o + k.val, by omega⟩ : Fin 8192) (⟨j.val % 32, Nat.mod_lt _ (by decide)⟩ : Fin 32)) + l1 (ix2 0 j) + l2 (ix2 0 j)) := by
  have e1 : extractStridedSlice S2048x32 ![o, 0] nh ho (ix2 k (⟨j.val % 32, Nat.mod_lt _ (by decide)⟩ : Fin 32))
      = nh (ix2 (⟨o + k.val, by omega⟩ : Fin 8192) (⟨j.val % 32, Nat.mod_lt _ (by decide)⟩ : Fin 32)) := by
    refine extractStridedSlice_apply _ _ _ _ _ fun a => ?_
    match a with
    | ⟨0, _⟩ => rfl
    | ⟨1, _⟩ => exact (Nat.zero_add _).symm
  have e2 : ∀ l : Vec Ideal S1x1024 .bf16, broadcastTo S2048x1024 l broadcasts_S1x1024_S2048x1024 (ix2 k j) = l (ix2 0 j) := fun l => by
    refine broadcastTo_apply _ _ _ _ fun a => ?_
    match a with
    | ⟨0, _⟩ => rfl
    | ⟨1, _⟩ => rfl
  show Ideal.tanh (tile _ (ix2 k j) + broadcastTo S2048x1024 l1 _ (ix2 k j) + broadcastTo S2048x1024 l2 _ (ix2 k j)) = _
  rw [tile_apply, e1, e2, e2]

/-- The chunk's product at an index: the sum over its rows of the one-hot entry times the tangent. -/
theorem chunkDot_apply (oh : FVec Ideal S16x8192 .bf16) (nh : FVec Ideal S8192x32 .bf16) (o : ℕ) (hb : o + 2048 ≤ 8192)
    (hs : S16x8192.Slices ![0, o] S16x2048) (ho : S8192x32.Slices ![o, 0] S2048x32) (l1 l2 : Vec Ideal S1x1024 .bf16)
    (s : Fin 16) (j : Fin 1024) :
    chunkDot oh nh o hs ho l1 l2 (ix2 s j) = ∑ k : Fin 2048, oh (ix2 s (⟨o + k.val, by omega⟩ : Fin 8192))
      * Ideal.tanh (nh (ix2 (⟨o + k.val, by omega⟩ : Fin 8192) (⟨j.val % 32, Nat.mod_lt _ (by decide)⟩ : Fin 32)) + l1 (ix2 0 j) + l2 (ix2 0 j)) := by
  refine (Ideal.matmul_plain_apply (M := 16) (K := 2048) (N := 1024) none _ _ _ s j).trans ?_
  have e0 : (constant S16x1024 .f32 0x00000000#32 : FVec Ideal S16x1024 .f32) (ix2 s j) = 0 := by pointwise
  refine (congrArg (· + _) e0).trans ((zero_add _).trans ?_)
  refine Finset.sum_congr rfl fun k _ => ?_
  show extractStridedSlice S16x2048 ![0, o] oh hs (ix2 s k) * chunkTanh nh o ho l1 l2 (ix2 k j) = _
  rw [chunkTanh_apply nh o hb ho l1 l2 k j]
  refine congrArg (· * _) (extractStridedSlice_apply _ _ _ _ _ fun a => ?_)
  match a with
  | ⟨0, _⟩ => exact (Nat.zero_add _).symm
  | ⟨1, _⟩ => rfl

/-- The first chunk's product, as the body spells it. -/
theorem pay8_eq (x : Vec Ideal S8192x2 .f32) (v : Vec Ideal S32x2 .f32) (b : Vec Ideal S1x8192 .i32) (l1 l2 : Vec Ideal S1x1024 .bf16) :
    k0_pay8 x v b l1 l2 = chunkDot (k0_pay7 b) (k0_pay4 x v) 0 slices_S16x8192_o0_0_S16x2048 slices_S8192x32_o0_0_S2048x32 l1 l2 := by
  unfold k0_pay8
  simp only [shapeCast_self]
  rfl

/-- What the body adds onto the accumulator: half the four chunks' products, plus half the one-hot rows' sums. -/
theorem pay10_eq (x : Vec Ideal S8192x2 .f32) (v : Vec Ideal S32x2 .f32) (b : Vec Ideal S1x8192 .i32) (l1 l2 : Vec Ideal S1x1024 .bf16)
    (acc : Vec Ideal S16x1024 .f32) :
    k0_pay10 (k0_pay4 x v) (k0_pay6 b) (k0_pay7 b) (k0_pay8 x v b l1 l2) (k0_pay9 x v l1) l2 l1 l2 l1 l2 acc
      = addf acc (addf (mulf (broadcast S16x1024 (Scalar.ofBits .f32 0x3F000000#32 : Ideal .f32))
          (addf (addf (addf (chunkDot (k0_pay7 b) (k0_pay4 x v) 0 slices_S16x8192_o0_0_S16x2048 slices_S8192x32_o0_0_S2048x32 l1 l2)
            (chunkDot (k0_pay7 b) (k0_pay4 x v) 2048 slices_S16x8192_o0_2048_S16x2048 slices_S8192x32_o2048_0_S2048x32 l1 l2))
            (chunkDot (k0_pay7 b) (k0_pay4 x v) 4096 slices_S16x8192_o0_4096_S16x2048 slices_S8192x32_o4096_0_S2048x32 l1 l2))
            (chunkDot (k0_pay7 b) (k0_pay4 x v) 6144 slices_S16x8192_o0_6144_S16x2048 slices_S8192x32_o6144_0_S2048x32 l1 l2)))
          (broadcastTo S16x1024 (mulf (broadcast S16x1 (Scalar.ofBits .f32 0x3F000000#32 : Ideal .f32)) (k0_pay6 b)) broadcasts_S16x1_S16x1024)) := by
  rw [pay8_eq]
  unfold k0_pay10 k0_pay9
  simp only [shapeCast_self]
  rfl

end Cert.KernelIdeal.Ect

end
-- ==== Proof.Consts.lean ====
/- The literals both programs print, as real numbers. -/
module

public import Idealize.ShloMosaic.PureOps.Ideal

@[expose] public section

noncomputable section

namespace Cert.Reals

open Idealize.ShloMosaic

/-- The literal `0.5`. -/
theorem lit_half : Ideal.ofBits .f32 0x3F000000#32 = ((1 / 2 : ℝ) : EReal) := by
  simp [Ideal.ofBits, Ideal.ieee, -EReal.coe_mul]; norm_num
/-- The literal `-100`. -/
theorem lit_neg_hundred : Ideal.ofBits .f32 0xC2C80000#32 = ((-100 : ℝ) : EReal) := by
  simp [Ideal.ofBits, Ideal.ieee, -EReal.coe_mul]; norm_num
/-- The literal `100`. -/
theorem lit_hundred : Ideal.ofBits .f32 0x42C80000#32 = ((100 : ℝ) : EReal) := by
  simp [Ideal.ofBits, Ideal.ieee, -EReal.coe_mul]; norm_num
/-- The literal `200`. -/
theorem lit_two_hundred : Ideal.ofBits .f32 0x43480000#32 = ((200 : ℝ) : EReal) := by
  simp [Ideal.ofBits, Ideal.ieee, -EReal.coe_mul]; norm_num
/-- The literal `1`. -/
theorem lit_one : Ideal.ofBits .f32 0x3F800000#32 = ((1 : ℝ) : EReal) := by
  simp [Ideal.ofBits, Ideal.ieee, -EReal.coe_mul]; norm_num
/-- The literal `0`. -/
theorem lit_zero : Ideal.ofBits .f32 0x00000000#32 = ((0 : ℝ) : EReal) := by
  simp [Ideal.ofBits, Ideal.ieee, -EReal.coe_mul]
/-- The literal `31`. -/
theorem lit_thirty_one : Ideal.ofBits .f32 0x41F80000#32 = ((31 : ℝ) : EReal) := by
  simp [Ideal.ofBits, Ideal.ieee, -EReal.coe_mul]; norm_num
/-- The lowest height, the literal nearest `-1.1`, is a real number. -/
theorem lit_lo : ∃ r : ℝ, Ideal.ofBits .f32 0xBF8CCCCD#32 = (r : EReal) := by
  simp [Ideal.ofBits, Ideal.ieee, -EReal.coe_mul]
  exact ⟨_, rfl⟩
/-- The highest height, the literal nearest `1.1`, is a real number. -/
theorem lit_hi : ∃ r : ℝ, Ideal.ofBits .f32 0x3F8CCCCD#32 = (r : EReal) := by
  simp [Ideal.ofBits, Ideal.ieee, -EReal.coe_mul]
/-- The literal `+∞`. -/
theorem lit_top : Ideal.ofBits .f32 0x7F800000#32 = (⊤ : EReal) := by
  simp [Ideal.ofBits, Ideal.ieee]

end Cert.Reals

end
-- ==== Proof.Point.lean ====
/- What one grid point adds onto the accumulator, as a sum of real numbers: over the point's 8192 rows, the logistic
   function of twice the scaled height difference, for the rows whose segment is the accumulator's. -/
module

public import proofs.«01_k».proof.Proof.Block
public import proofs.«01_k».proof.Proof.Consts

@[expose] public section

set_option maxRecDepth 16384

noncomputable section

namespace Cert.KernelIdeal.Ect

open Idealize.ShloMosaic Cert.KernelIdeal Cert.KernelIdeal.Gen Cert.KernelIdeal.Facts Cert.Reals

/-- The heights' product at an index: minus a hundred times the row's product with the direction. -/
theorem pay4_apply (x : Vec Ideal S8192x2 .f32) (v : Vec Ideal S32x2 .f32) (r : Fin 8192) (t : Fin 32) :
    k0_pay4 x v (ix2 r t) = ∑ k : Fin 2, x (ix2 r k) * Ideal.ofBits .f32 0xC2C80000#32 * v (ix2 t k) := by
  unfold k0_pay4
  refine (Ideal.matmul_transposedRhs_apply (M := 8192) (K := 2) (N := 32) (φ₁ := .f32) (φ₂ := .f32) none _ v _ r t).trans ?_
  have e0 : (constant S8192x32 .f32 0x00000000#32 : FVec Ideal S8192x32 .f32) (ix2 r t) = 0 := by pointwise
  exact (congrArg (· + _) e0).trans (zero_add _)

/-- The one-hot entry: one where the row's segment is `s`, else nought. -/
theorem pay5_apply (b : Vec Ideal S1x8192 .i32) (s : Fin 16) (r : Fin 8192) :
    k0_pay5 (F := Ideal) b (ix2 s r) = ((if b (ix2 0 r) = BitVec.ofNat 32 s.val then 1 else 0 : ℝ) : EReal) := by
  unfold k0_pay5
  pointwise
  by_cases h : b (ix2 0 r) = BitVec.ofNat 32 s.val
  · rw [h, if_pos rfl]
    have e : BitVec.setWidth 32 (IntOp.cmpi CmpIPredicate.eq (BitVec.ofNat 32 s.val) (BitVec.ofNat 32 s.val)) = 1#32 := by
      simp [IntOp.cmpi]
    rw [e]
    show (((BitVec.toInt _ : ℤ) : ℝ) : EReal) = _
    norm_num
  · rw [if_neg h]
    have e : BitVec.setWidth 32 (IntOp.cmpi CmpIPredicate.eq (b (ix2 0 r)) (BitVec.ofNat 32 s.val)) = 0#32 := by
      have hn : (b (ix2 0 r) == BitVec.ofNat 32 s.val) = false := beq_eq_false_iff_ne.mpr h
      show BitVec.setWidth 32 (BitVec.ofBool (b (ix2 0 r) == BitVec.ofNat 32 s.val)) = 0#32
      rw [hn]; rfl
    rw [e]
    show (((BitVec.toInt _ : ℤ) : ℝ) : EReal) = _
    norm_num

/-- The narrowed one-hot rows are the one-hot rows. -/
theorem pay7_apply (b : Vec Ideal S1x8192 .i32) (s : Fin 16) (r : Fin 8192) :
    k0_pay7 (F := Ideal) b (ix2 s r) = ((if b (ix2 0 r) = BitVec.ofNat 32 s.val then 1 else 0 : ℝ) : EReal) :=
  pay5_apply b s r

/-- A segment's count at this point: the sum of its one-hot row. -/
theorem pay6_apply (b : Vec Ideal S1x8192 .i32) (s : Fin 16) :
    k0_pay6 (F := Ideal) b (ix2 s 0) = ∑ r : Fin 8192, ((if b (ix2 0 r) = BitVec.ofNat 32 s.val then 1 else 0 : ℝ) : EReal) := by
  have e : k0_pay6 (F := Ideal) b (ix2 s 0) = ∑ r : Fin 8192, k0_pay5 (F := Ideal) b (ix2 s r) := by
    unfold k0_pay6
    pointwise
  rw [e]
  exact Finset.sum_congr rfl fun r _ => pay5_apply b s r

/-- What the body adds onto the accumulator at a point, over the point's blocks. -/
def addend (x : Vec Ideal S8192x2 .f32) (b : Vec Ideal S1x8192 .i32) (v : Vec Ideal S32x2 .f32) (l1 l2 : Vec Ideal S1x1024 .bf16) :
    FVec Ideal S16x1024 .f32 :=
  addf (mulf (broadcast S16x1024 (Scalar.ofBits .f32 0x3F000000#32 : Ideal .f32))
      (addf (addf (addf (chunkDot (k0_pay7 b) (k0_pay4 x v) 0 slices_S16x8192_o0_0_S16x2048 slices_S8192x32_o0_0_S2048x32 l1 l2)
        (chunkDot (k0_pay7 b) (k0_pay4 x v) 2048 slices_S16x8192_o0_2048_S16x2048 slices_S8192x32_o2048_0_S2048x32 l1 l2))
        (chunkDot (k0_pay7 b) (k0_pay4 x v) 4096 slices_S16x8192_o0_4096_S16x2048 slices_S8192x32_o4096_0_S2048x32 l1 l2))
        (chunkDot (k0_pay7 b) (k0_pay4 x v) 6144 slices_S16x8192_o0_6144_S16x2048 slices_S8192x32_o6144_0_S2048x32 l1 l2)))
      (broadcastTo S16x1024 (mulf (broadcast S16x1 (Scalar.ofBits .f32 0x3F000000#32 : Ideal .f32)) (k0_pay6 b)) broadcasts_S16x1_S16x1024)

section
variable (x : Vec Ideal S8192x2 .f32) (b : Vec Ideal S1x8192 .i32) (v : Vec Ideal S32x2 .f32) (l1 l2 : Vec Ideal S1x1024 .bf16)
  (X : ℕ → Fin 2 → ℝ) (B : ℕ → BitVec 32) (V : Fin 32 → Fin 2 → ℝ) (L : ℝ) (s : Fin 16) (j : Fin 1024)

/-- Column `j`'s direction. -/
abbrev dir (j : Fin 1024) : Fin 32 := ⟨j.val % 32, Nat.mod_lt _ (by decide)⟩

/-- The argument of the tangent at row `r`: a hundred times the height difference. -/
def arg (r : ℕ) : ℝ := -100 * (X r 0 * V (dir j) 0 + X r 1 * V (dir j) 1) + L

/-- Whether row `r`'s segment is `s`, as one or nought. -/
def hit (r : ℕ) : ℝ := if B r = BitVec.ofNat 32 s.val then 1 else 0

/-- One chunk's product as a sum of reals. -/
theorem chunkDot_real (hx : ∀ (r : Fin 8192) (k : Fin 2), x (ix2 r k) = ((X r.val k : ℝ) : EReal))
    (hb : ∀ r : Fin 8192, b (ix2 0 r) = B r.val) (hv : ∀ (t : Fin 32) (k : Fin 2), v (ix2 t k) = ((V t k : ℝ) : EReal))
    (hl1 : l1 (ix2 0 j) = ((L : ℝ) : EReal)) (hl2 : l2 (ix2 0 j) = 0)
    (o : ℕ) (ho : o + 2048 ≤ 8192) (h1 : S16x8192.Slices ![0, o] S16x2048) (h2 : S8192x32.Slices ![o, 0] S2048x32) :
    chunkDot (k0_pay7 b) (k0_pay4 x v) o h1 h2 l1 l2 (ix2 s j)
      = ((∑ k ∈ Finset.range 2048, hit B s (o + k) * Real.tanh (arg X V L j (o + k)) : ℝ) : EReal) := by
  rw [chunkDot_apply _ _ _ ho, Finset.sum_range, coe_sum]
  refine Finset.sum_congr rfl fun k _ => ?_
  rw [pay7_apply, pay4_apply, Fin.sum_univ_two, hx, hx, hv, hv, hl1, hl2, hb, lit_neg_hundred, add_zero, ← EReal.coe_mul, ← EReal.coe_mul,
    ← EReal.coe_mul, ← EReal.coe_mul, ← EReal.coe_add, ← EReal.coe_add, Ideal.tanh_coe, ← EReal.coe_mul]
  unfold hit arg
  congr 3
  ring_nf

/-- WHAT A POINT ADDS, at segment `s` and column `j`: the sum over its rows of the logistic function of twice the argument,
    for the rows of segment `s`. -/
theorem addend_real (hx : ∀ (r : Fin 8192) (k : Fin 2), x (ix2 r k) = ((X r.val k : ℝ) : EReal))
    (hb : ∀ r : Fin 8192, b (ix2 0 r) = B r.val) (hv : ∀ (t : Fin 32) (k : Fin 2), v (ix2 t k) = ((V t k : ℝ) : EReal))
    (hl1 : l1 (ix2 0 j) = ((L : ℝ) : EReal)) (hl2 : l2 (ix2 0 j) = 0) :
    addend x b v l1 l2 (ix2 s j) = ((∑ r ∈ Finset.range 8192, hit B s r * sigma (2 * arg X V L j r) : ℝ) : EReal) := by
  have e1 : broadcastTo S16x1024 (mulf (broadcast S16x1 (Scalar.ofBits .f32 0x3F000000#32 : Ideal .f32)) (k0_pay6 b)) broadcasts_S16x1_S16x1024 (ix2 s j)
      = ((1 / 2 * ∑ r ∈ Finset.range 8192, hit B s r : ℝ) : EReal) := by
    refine (broadcastTo_apply _ _ _ (ix2 s 0) fun a => ?_).trans ?_
    · match a with
      | ⟨0, _⟩ => rfl
      | ⟨1, _⟩ => rfl
    · show Ideal.ofBits .f32 0x3F000000#32 * k0_pay6 (F := Ideal) b (ix2 s 0) = _
      rw [pay6_apply, lit_half, Finset.sum_range, EReal.coe_mul, coe_sum]
      refine congrArg _ (Finset.sum_congr rfl fun r _ => ?_)
      rw [hb]; rfl
  have hc := fun o ho h1 h2 => chunkDot_real x b v l1 l2 X B V L s j hx hb hv hl1 hl2 o ho h1 h2
  show Ideal.ofBits .f32 0x3F000000#32 * (chunkDot _ _ 0 _ _ _ _ (ix2 s j) + chunkDot _ _ 2048 _ _ _ _ (ix2 s j)
    + chunkDot _ _ 4096 _ _ _ _ (ix2 s j) + chunkDot _ _ 6144 _ _ _ _ (ix2 s j)) + broadcastTo S16x1024 _ _ (ix2 s j) = _
  rw [e1, hc 0 (by decide), hc 2048 (by decide), hc 4096 (by decide), hc 6144 (by decide), lit_half,
    ← EReal.coe_add, ← EReal.coe_add, ← EReal.coe_add, ← EReal.coe_mul, ← EReal.coe_add]
  refine congrArg _ ?_
  have e2 := sum_four 2048 fun r => hit B s r * Real.tanh (arg X V L j r)
  simp only [Nat.zero_add]
  norm_num only at e2
  rw [← e2, Finset.mul_sum, Finset.mul_sum, ← Finset.sum_add_distrib]
  refine Finset.sum_congr rfl fun r _ => ?_
  rw [← half_tanh_add_half]
  ring

end

end Cert.KernelIdeal.Ect

end
-- ==== Proof.Cases.lean ====
/- What the body leaves behind at the first, a middle and the last grid point: the accumulator with the point's addend on
   top (over zeros at the first point), and at the last point the accumulator reshaped as the output block. -/
module

public import proofs.«01_k».proof.Proof.Gen.KernelIdeal.Value
public import proofs.«01_k».proof.Proof.Point
public import Idealize.ShloMosaic.Lib.Tactic.ValueTie

@[expose] public section

set_option maxRecDepth 16384

noncomputable section

namespace Cert.KernelIdeal.Ect

open Idealize.ShloMosaic Idealize.ShloMosaic.TcCoe Idealize.ShloMosaic.Tactic Idealize.SL.Sem
open Cert.KernelIdeal Cert.KernelIdeal.Gen Cert.KernelIdeal.Facts

/-- The accumulator's store and loads start at its first element. -/
theorem hz2 : (![0, 0] : Fin 2 → Nat) = fun _ => 0 := funext fun a => by fin_cases a <;> rfl
/-- The output block's store starts at its first element. -/
theorem hz3 : (![0, 0, 0] : Fin 3 → Nat) = fun _ => 0 := funext fun a => by fin_cases a <;> rfl

/-- The zeros the accumulator starts from. -/
abbrev zeros : FVec Ideal S16x1024 .f32 := broadcast S16x1024 (Scalar.ofBits .f32 0x00000000#32 : Ideal .f32)

section
variable (c : Dev nD) (i : grid0.Coords) (arg1 : Memref sig .tc .vmem S8192x2 .f32) (harg1 : arg1.IsWhole) (arg2 : Memref sig .tc .vmem S1x8192 .i32) (harg2 : arg2.IsWhole)
  (arg3 : Memref sig .tc .vmem S32x2 .f32) (harg3 : arg3.IsWhole) (arg4 : Memref sig .tc .vmem S1x1024 .bf16) (harg4 : arg4.IsWhole)
  (arg5 : Memref sig .tc .vmem S1x1024 .bf16) (harg5 : arg5.IsWhole) (arg6 : Memref sig .tc .vmem S16x32x32 .f32) (harg6 : arg6.IsWhole)
  (arg7 : Memref sig .tc .vmem S16x1024 .f32) (harg7 : arg7.IsWhole)
  (x0 : Vec Ideal S8192x2 .f32) (x1 : Vec Ideal S1x8192 .i32) (x2 : Vec Ideal S32x2 .f32) (x3 x4 : Vec Ideal S1x1024 .bf16) (xs0 : Vec Ideal S16x1024 .f32)

/-- The first point leaves the accumulator at its addend over zeros. -/
theorem sout_A (hc0 : cond0_0 i) (hc1 : ¬cond0_1 i) :
    sout0_A_0 c i arg1 harg1 arg2 harg2 arg3 harg3 arg4 harg4 arg5 harg5 arg6 harg6 arg7 harg7 hc0 hc1 x0 x1 x2 x3 x4
      = addf zeros (addend x0 x1 x2 x3 x4) := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_words
  rw [View.canon_cons_unit_zero (S := S16x1024) hz2, View.readCov_unit_zero (S := S16x1024) _ hz2]
  unfold k0_pay1 k0_pay3
  simp only [View.readAt_eq_ld, harg1.read_unread, harg2.read_unread, harg3.read_unread, harg4.read_unread, harg5.read_unread,
    View.ld_unit_zero (S := S8192x2) hz2, View.ld_unit_zero (S := S1x8192) hz2, View.ld_unit_zero (S := S32x2) hz2,
    View.ld_unit_zero (S := S1x1024) hz2, View.ld_unit_zero (S := S16x1024) hz2, shapeCast_self, pay10_eq]
  rfl

/-- A middle point adds its addend onto the accumulator. -/
theorem sout_B (hc0 : ¬cond0_0 i) (hc1 : ¬cond0_1 i) :
    sout0_B_0 c i arg1 harg1 arg2 harg2 arg3 harg3 arg4 harg4 arg5 harg5 arg6 harg6 arg7 harg7 hc0 hc1 x0 x1 x2 x3 x4 xs0
      = addf xs0 (addend x0 x1 x2 x3 x4) := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 xs0)]
  unfold kernelRun0_B
  dsimp only
  sl_unfold_words
  rw [View.canon_unit_zero (S := S16x1024) hz2]
  unfold k0_pay1
  simp only [View.readAt_eq_ld, harg1.read_unread, harg2.read_unread, harg3.read_unread, harg4.read_unread, harg5.read_unread, harg7.read_unread,
    View.ld_unit_zero (S := S8192x2) hz2, View.ld_unit_zero (S := S1x8192) hz2, View.ld_unit_zero (S := S32x2) hz2,
    View.ld_unit_zero (S := S1x1024) hz2, View.ld_unit_zero (S := S16x1024) hz2, shapeCast_self, pay10_eq]
  rfl

/-- The last point leaves, as the output block, the accumulator with its addend on top, reshaped. -/
theorem out_C (hc0 : ¬cond0_0 i) (hc1 : cond0_1 i) :
    out0_C_5 c i arg1 harg1 arg2 harg2 arg3 harg3 arg4 harg4 arg5 harg5 arg6 harg6 arg7 harg7 hc0 hc1 x0 x1 x2 x3 x4 xs0
      = shapeCast S16x32x32 (addf xs0 (addend x0 x1 x2 x3 x4)) shapeCasts_S16x1024_S16x32x32 := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero (S := S16x32x32) hz3, View.readCov_unit_zero (S := S16x1024) _ hz2]
  unfold k0_pay2 k0_pay1
  simp only [View.readAt_eq_ld, harg1.read_unread, harg2.read_unread, harg3.read_unread, harg4.read_unread, harg5.read_unread, harg7.read_unread,
    View.ld_unit_zero (S := S8192x2) hz2, View.ld_unit_zero (S := S1x8192) hz2, View.ld_unit_zero (S := S32x2) hz2,
    View.ld_unit_zero (S := S1x1024) hz2, View.ld_unit_zero (S := S16x1024) hz2, shapeCast_self, pay10_eq]
  rfl
end

end Cert.KernelIdeal.Ect

end
-- ==== Proof.Heights.lean ====
/- The table of heights is 32 real numbers: 31 points of the line between the two end points, then the upper end point. -/
module

public import proofs.«01_k».proof.Proof.Gen.ReferenceIdeal.Read
public import proofs.«01_k».proof.Proof.Consts
public import Idealize.ShloMosaic.Lib.Pointwise

@[expose] public section

set_option maxRecDepth 16384

noncomputable section

namespace Cert.ReferenceIdeal.Ect

open Idealize.ShloMosaic Cert.ReferenceIdeal Cert.ReferenceIdeal.Gen Cert.ReferenceIdeal.Read Cert.Reals

/-- The fraction `i / 31` along the line is a real number. -/
theorem frac_real (i : Fin 31) : ∃ r : ℝ, val_main_call0_v6 (F := Ideal) (ix1 i) = (r : EReal) := by
  rw [val_main_call0_v6_apply, val_main_call0_v5_apply, val_main_call0_cst_0_apply]
  obtain ⟨q, hq⟩ : ∃ q : ℝ, val_main_call0_v4 (F := Ideal) (ix1 i) = (q : EReal) := ⟨((BitVec.toInt _ : ℤ) : ℝ), rfl⟩
  rw [hq]
  refine ⟨q * (1 / 31), ?_⟩
  show Ideal.div (q : EReal) (Ideal.ofBits .f32 0x41F80000#32) = _
  rw [lit_thirty_one]
  rw [Ideal.div_coe (by norm_num), EReal.coe_mul]

/-- Each of the 31 points is a real number. -/
theorem point_real (i : Fin 31) : ∃ r : ℝ, val_main_call0_v15 (F := Ideal) (ix1 i) = (r : EReal) := by
  obtain ⟨q, hq⟩ := frac_real i
  obtain ⟨lo, hlo⟩ := lit_lo
  obtain ⟨hi, hhi⟩ := lit_hi
  have e10 : val_main_call0_v10 (F := Ideal) (ix1 i) = (lo : EReal) := hlo
  have e13 : val_main_call0_v13 (F := Ideal) (ix1 i) = (hi : EReal) := hhi
  have e8 : val_main_call0_v8 (F := Ideal) (ix1 i) = ((1 : ℝ) : EReal) := lit_one
  refine ⟨lo * (1 - q) + hi * q, ?_⟩
  rw [val_main_call0_v15_apply, val_main_call0_v11_apply, val_main_call0_v14_apply, val_main_call0_v9_apply, hq, e10, e13, e8]
  show (lo : EReal) * (((1 : ℝ) : EReal) - (q : EReal)) + (hi : EReal) * (q : EReal) = _
  norm_cast

/-- Every height is a real number. -/
theorem height_real (b : Fin 32) : ∃ r : ℝ, val_main_v2 (F := Ideal) (ix1 b) = (r : EReal) := by
  unfold val_main_v2
  by_cases h : b.val < 31
  · obtain ⟨r, hr⟩ := point_real ⟨b.val, h⟩
    refine ⟨r, Eq.trans ?_ hr⟩
    refine concatenate_pair_apply_left (t := S32) (s₁ := S31) (s₂ := S1) (0 : Fin 1) _ _ concatenates_S31_S1_S32_d0 (ix1 b) rfl _ fun a => ?_
    match a with
    | ⟨0, _⟩ => rfl
  · obtain ⟨hi, hhi⟩ := lit_hi
    refine ⟨hi, Eq.trans ?_ hhi⟩
    refine concatenate_pair_apply_right (t := S32) (s₁ := S31) (s₂ := S1) (0 : Fin 1) _ _ concatenates_S31_S1_S32_d0 (ix1 b) rfl rfl (ix1 (0 : Fin 1)) (fun a ha => ?_) ?_
    · match a with
      | ⟨0, _⟩ => exact absurd rfl ha
    · show 31 + 0 = b.val
      omega

/-- The heights as real numbers. -/
def height (b : Fin 32) : ℝ := (height_real b).choose

/-- The table's entries are the heights. -/
theorem height_spec (b : Fin 32) : val_main_v2 (F := Ideal) (ix1 b) = (height b : EReal) := (height_real b).choose_spec

end Cert.ReferenceIdeal.Ect

end
-- ==== Proof.Prefix.lean ====
/- What the kernel's operands hold when it starts: the scaled heights, their narrowing's remainder, the segments. -/
module

public import proofs.«01_k».proof.Proof.Gen.KernelIdeal.Value
public import proofs.«01_k».proof.Proof.Heights
public import Idealize.ShloMosaic.Lib.Pointwise

@[expose] public section

set_option maxRecDepth 16384

noncomputable section

namespace Cert.KernelIdeal.Ect

open Idealize.ShloMosaic Idealize.ShloMosaic.TcCoe Idealize.ShloMosaic.Tactic Idealize.SL.Sem
open Cert.KernelIdeal Cert.KernelIdeal.Gen Cert.KernelIdeal.Facts Cert.Reals

/-- The scaled heights, each repeated for the 32 directions, as one row. -/
def scaledRow : FVec Ideal S1x1024 .f32 :=
  shapeCast S1x1024 (shapeCast S1024 (broadcastInDim S32x32 ![0] bcast_S32_S32x32_0
    (mulf (broadcastInDim S32 ![] bcast_S_S32 (constant S_ .f32 0x42C80000#32)) (Cert.ReferenceIdeal.Read.val_main_v2 (F := Ideal))))
    shapeCasts_S32x32_S1024) shapeCasts_S1024_S1x1024

/-- The kernel's fourth operand holds the scaled heights. -/
theorem V_v6 (m : (ℓ : Loc nD τ sig) → Buf (Elt Ideal) ℓ) (c : Dev nD) : V m c main_call0_v6 = (scaledRow : S1x1024.Idx → EReal) := by
  entry_read
  rfl

/-- The kernel's fifth operand holds the scaled heights minus themselves. -/
theorem V_v9 (m : (ℓ : Loc nD τ sig) → Buf (Elt Ideal) ℓ) (c : Dev nD) : V m c main_call0_v9 = (subf scaledRow scaledRow : S1x1024.Idx → EReal) := by
  entry_read
  rfl

/-- The kernel's second operand holds the segments, as one row. -/
theorem V_v10 (m : (ℓ : Loc nD τ sig) → Buf (Elt Ideal) ℓ) (c : Dev nD) :
    V m c main_call0_v10 = shapeCast S1x32768 (m ((c : Thread nD τ).loc main_arg1)) shapeCasts_S32768_S1x32768 := by
  entry_read
  rfl

/-- A reshape to one row reads the list at the column. -/
theorem one_row (y : S32768.Idx → BitVec 32) (n : Fin 32768) : shapeCast S1x32768 y shapeCasts_S32768_S1x32768 (ix2 0 n) = y (ix1 n) := by
  pointwise

/-- The height index of an accumulator's column. -/
def hgt (j : Fin 1024) : Fin 32 := ⟨j.val / 32, by omega⟩

/-- The scaled heights at a column. -/
theorem scaledRow_apply (j : Fin 1024) :
    scaledRow (ix2 0 j) = ((100 * Cert.ReferenceIdeal.Ect.height (hgt j) : ℝ) : EReal) := by
  unfold scaledRow
  pointwise
  show Ideal.ofBits .f32 0x42C80000#32 * Cert.ReferenceIdeal.Read.val_main_v2 (F := Ideal) (ix1 (hgt j)) = _
  rw [lit_hundred, Cert.ReferenceIdeal.Ect.height_spec, EReal.coe_mul]

/-- The remainder of the scaled heights is nought. -/
theorem remainder_apply (j : Fin 1024) : subf scaledRow scaledRow (ix2 0 j) = 0 := by
  show scaledRow (ix2 0 j) - scaledRow (ix2 0 j) = 0
  rw [scaledRow_apply, ← EReal.coe_sub, sub_self, EReal.coe_zero]

end Cert.KernelIdeal.Ect

end
-- ==== Proof.Blocks.lean ====
/- What each grid point's blocks hold: its 8192 points and segments, and the directions and height rows whole. -/
module

public import proofs.«01_k».proof.Proof.Prefix

@[expose] public section

set_option maxRecDepth 16384

noncomputable section

namespace Cert.KernelIdeal.Ect

open Idealize.ShloMosaic Idealize.ShloMosaic.TcCoe Idealize.ShloMosaic.Tactic Idealize.SL.Sem
open Cert.KernelIdeal Cert.KernelIdeal.Gen Cert.KernelIdeal.Facts Cert.Reals

variable (m : (ℓ : Loc nD τ sig) → Buf (Elt Ideal) ℓ) (c : Dev nD) (t : Fin cfg0.N)

/-- The row of the whole arrays that a point's row is. -/
def row (t : Fin cfg0.N) (r : Fin 8192) : Fin 32768 :=
  ⟨8192 * t.val + r.val, by have h : t.val < 4 := lt_of_lt_of_eq t.isLt N_0; omega⟩

/-- The block of points. -/
theorem blk_points (r : Fin 8192) (k : Fin 2) :
    (iblk m c 0 t : Vec Ideal S8192x2 .f32) (ix2 r k) = m ((c : Thread nD τ).loc main_arg0) (ix2 (row t r) k) := by
  have hi : win0_0.index t 0 = t.val ∧ win0_0.index t 1 = 0 := by
    rcases fin_N0 t with rfl | rfl | rfl | rfl <;> decide
  unfold iblk
  rw [View.read_apply]
  show V m c main_arg0 _ = m ((c : Thread nD τ).loc main_arg0) _
  rw [V_main_arg0]
  congr 1
  funext a
  apply Fin.ext
  match a with
  | ⟨0, _⟩ => show win0_0.index t 0 * 8192 + 1 * r.val = 8192 * t.val + r.val; rw [hi.1]; omega
  | ⟨1, _⟩ => show win0_0.index t 1 * 2 + 1 * k.val = k.val; rw [hi.2]; omega

/-- The block of segments. -/
theorem blk_segments (r : Fin 8192) :
    (iblk m c 1 t : Vec Ideal S1x8192 .i32) (ix2 0 r) = m ((c : Thread nD τ).loc main_arg1) (ix1 (row t r)) := by
  have hi : win0_1.index t 0 = 0 ∧ win0_1.index t 1 = t.val := by
    rcases fin_N0 t with rfl | rfl | rfl | rfl <;> decide
  unfold iblk
  rw [View.read_apply]
  show V m c main_call0_v10 _ = m ((c : Thread nD τ).loc main_arg1) _
  have e : ((cfg0.win 1).blk t).view.emb (ix2 0 r) = (ix2 0 (row t r) : S1x32768.Idx) := by
    funext a
    apply Fin.ext
    match a with
    | ⟨0, _⟩ => show win0_1.index t 0 * 1 + 1 * 0 = 0; rw [hi.1]
    | ⟨1, _⟩ => show win0_1.index t 1 * 8192 + 1 * r.val = 8192 * t.val + r.val; rw [hi.2]; omega
  refine (congrArg (V m c main_call0_v10) e).trans ?_
  rw [V_v10]
  exact one_row _ _

/-- The block of directions is the array. -/
theorem blk_directions (a : Fin 32) (k : Fin 2) :
    (iblk m c 2 t : Vec Ideal S32x2 .f32) (ix2 a k) = m ((c : Thread nD τ).loc main_arg2) (ix2 a k) := by
  have hi : win0_2.index t 0 = 0 ∧ win0_2.index t 1 = 0 := by
    rcases fin_N0 t with rfl | rfl | rfl | rfl <;> decide
  unfold iblk
  rw [View.read_apply]
  show V m c main_arg2 _ = m ((c : Thread nD τ).loc main_arg2) _
  rw [V_main_arg2]
  congr 1
  funext b
  apply Fin.ext
  match b with
  | ⟨0, _⟩ => show win0_2.index t 0 * 32 + 1 * a.val = a.val; rw [hi.1]; omega
  | ⟨1, _⟩ => show win0_2.index t 1 * 2 + 1 * k.val = k.val; rw [hi.2]; omega

/-- The block of scaled heights is their row. -/
theorem blk_heights (j : Fin 1024) :
    (iblk m c 3 t : Vec Ideal S1x1024 .bf16) (ix2 0 j) = ((100 * Cert.ReferenceIdeal.Ect.height (hgt j) : ℝ) : EReal) := by
  have hi : win0_3.index t 0 = 0 ∧ win0_3.index t 1 = 0 := by
    rcases fin_N0 t with rfl | rfl | rfl | rfl <;> decide
  unfold iblk
  rw [View.read_apply]
  show V m c main_call0_v6 _ = _
  have e : ((cfg0.win 3).blk t).view.emb (ix2 0 j) = (ix2 0 j : S1x1024.Idx) := by
    funext a
    apply Fin.ext
    match a with
    | ⟨0, _⟩ => show win0_3.index t 0 * 1 + 1 * 0 = 0; rw [hi.1]
    | ⟨1, _⟩ => show win0_3.index t 1 * 1024 + 1 * j.val = j.val; rw [hi.2]; omega
  refine (congrArg (V m c main_call0_v6) e).trans ?_
  rw [V_v6]
  exact scaledRow_apply j

/-- The block of remainders is nought. -/
theorem blk_remainders (j : Fin 1024) : (iblk m c 4 t : Vec Ideal S1x1024 .bf16) (ix2 0 j) = (0 : EReal) := by
  have hi : win0_4.index t 0 = 0 ∧ win0_4.index t 1 = 0 := by
    rcases fin_N0 t with rfl | rfl | rfl | rfl <;> decide
  unfold iblk
  rw [View.read_apply]
  show V m c main_call0_v9 _ = _
  have e : ((cfg0.win 4).blk t).view.emb (ix2 0 j) = (ix2 0 j : S1x1024.Idx) := by
    funext a
    apply Fin.ext
    match a with
    | ⟨0, _⟩ => show win0_4.index t 0 * 1 + 1 * 0 = 0; rw [hi.1]
    | ⟨1, _⟩ => show win0_4.index t 1 * 1024 + 1 * j.val = j.val; rw [hi.2]; omega
  refine (congrArg (V m c main_call0_v9) e).trans ?_
  rw [V_v9]
  exact remainder_apply j

end Cert.KernelIdeal.Ect

end
-- ==== Proof.Accum.lean ====
/- The kernel's result at an index: the sum, over all the rows of the index's segment, of the logistic function. -/
module

public import proofs.«01_k».proof.Proof.Cases
public import proofs.«01_k».proof.Proof.Blocks

@[expose] public section

set_option maxRecDepth 16384

noncomputable section

namespace Cert.KernelIdeal.Ect

open Idealize.ShloMosaic Idealize.ShloMosaic.TcCoe Idealize.ShloMosaic.Tactic Idealize.SL.Sem
open Cert.KernelIdeal Cert.KernelIdeal.Gen Cert.KernelIdeal.Facts Cert.KernelIdeal.Value Cert.Reals

variable (m : (ℓ : Loc nD τ sig) → Buf (Elt Ideal) ℓ) (c : Dev nD)

/-- A grid point's addend, of the blocks the point reads. -/
def added (t : Fin cfg0.N) : FVec Ideal S16x1024 .f32 :=
  addend (iblk m c 0 t) (iblk m c 1 t) (iblk m c 2 t) (iblk m c 3 t) (iblk m c 4 t)

/-- The first point leaves its addend over zeros in the accumulator. -/
theorem step_first (t : Fin cfg0.N) (acc) (h : t.val = 0) : (stAt0 m c t.val t.isLt acc).2 = addf zeros (added m c t) := by
  rw [stAt0_A m c t acc (by omega) (by omega)]
  dsimp only
  rw [sout_A]; rfl

/-- A middle point adds its addend onto the accumulator. -/
theorem step_middle (t : Fin cfg0.N) (acc) (h : t.val = 1 ∨ t.val = 2) : (stAt0 m c t.val t.isLt acc).2 = addf acc.2 (added m c t) := by
  rw [stAt0_B m c t acc (by omega) (by omega)]
  dsimp only
  rw [sout_B]; rfl

/-- The last point leaves the accumulator with its addend on top, reshaped, as the output block. -/
theorem step_last (t : Fin cfg0.N) (acc) (h : t.val = 3) :
    (stAt0 m c t.val t.isLt acc).1 = shapeCast S16x32x32 (addf acc.2 (added m c t)) shapeCasts_S16x1024_S16x32x32 := by
  rw [stAt0_C m c t acc (by omega) (by omega)]
  dsimp only
  rw [out_C]; rfl

/-- The result is the four addends over zeros, reshaped. -/
theorem result_chain : G5 m c = shapeCast S16x32x32
    (addf (addf (addf (addf zeros (added m c t0_0)) (added m c t0_1)) (added m c t0_2)) (added m c t0_3)) shapeCasts_S16x1024_S16x32x32 := by
  have h0 (acc) := step_first m c t0_0 acc rfl
  have h1 (acc) := step_middle m c t0_1 acc (Or.inl rfl)
  have h2 (acc) := step_middle m c t0_2 acc (Or.inr rfl)
  have h3 (acc) := step_last m c t0_3 acc rfl
  have e0 : (Pipeline.accAt (fun n h => stAt0 m c n h junk0) (stAt0 m c) 0 0 t0_0.isLt).2 = addf zeros (added m c t0_0) := h0 _
  have e1 : (Pipeline.accAt (fun n h => stAt0 m c n h junk0) (stAt0 m c) 0 1 t0_1.isLt).2
      = addf (addf zeros (added m c t0_0)) (added m c t0_1) := by
    rw [← e0]; exact h1 _
  have e2 : (Pipeline.accAt (fun n h => stAt0 m c n h junk0) (stAt0 m c) 0 2 t0_2.isLt).2
      = addf (addf (addf zeros (added m c t0_0)) (added m c t0_1)) (added m c t0_2) := by
    rw [← e1]; exact h2 _
  rw [G5_last, ← e2]
  exact h3 _

section
variable (X : ℕ → Fin 2 → ℝ) (B : ℕ → BitVec 32) (W : Fin 32 → Fin 2 → ℝ)

/-- A row's share of the sum: the logistic function of the sharpened height difference, if the row is in the segment. -/
def share (s : Fin 16) (j : Fin 1024) (n : ℕ) : ℝ :=
  hit B s n * sigma (2 * arg X W (100 * Cert.ReferenceIdeal.Ect.height (hgt j)) j n)

/-- A point's addend is the sum of its rows' shares. -/
theorem added_real (hx : ∀ (n : Fin 32768) (k : Fin 2), m ((c : Thread nD τ).loc main_arg0) (ix2 n k) = ((X n.val k : ℝ) : EReal))
    (hb : ∀ n : Fin 32768, m ((c : Thread nD τ).loc main_arg1) (ix1 n) = B n.val)
    (hv : ∀ (t : Fin 32) (k : Fin 2), m ((c : Thread nD τ).loc main_arg2) (ix2 t k) = ((W t k : ℝ) : EReal))
    (t : Fin cfg0.N) (s : Fin 16) (j : Fin 1024) :
    added m c t (ix2 s j) = ((∑ r ∈ Finset.range 8192, share X B W s j (8192 * t.val + r) : ℝ) : EReal) :=
  addend_real _ _ _ _ _ (fun r => X (8192 * t.val + r)) (fun r => B (8192 * t.val + r)) W _ s j
    (fun r k => (blk_points m c t r k).trans (hx (row t r) k))
    (fun r => (blk_segments m c t r).trans (hb (row t r)))
    (fun a k => (blk_directions m c t a k).trans (hv a k))
    (blk_heights m c t j) (blk_remainders m c t j)

/-- The accumulator's column of a height and a direction. -/
def col (b t : Fin 32) : Fin 1024 := ⟨b.val * 32 + t.val, by omega⟩

/-- THE KERNEL'S RESULT: the sum of the shares of all the rows. -/
theorem result_real (hx : ∀ (n : Fin 32768) (k : Fin 2), m ((c : Thread nD τ).loc main_arg0) (ix2 n k) = ((X n.val k : ℝ) : EReal))
    (hb : ∀ n : Fin 32768, m ((c : Thread nD τ).loc main_arg1) (ix1 n) = B n.val)
    (hv : ∀ (t : Fin 32) (k : Fin 2), m ((c : Thread nD τ).loc main_arg2) (ix2 t k) = ((W t k : ℝ) : EReal))
    (s : Fin 16) (b t : Fin 32) :
    G5 m c (ix3 s b t) = ((∑ n ∈ Finset.range 32768, share X B W s (col b t) n : ℝ) : EReal) := by
  have ha := fun t' => added_real m c X B W hx hb hv t' s (col b t)
  have e : G5 m c (ix3 s b t)
      = addf (addf (addf (addf zeros (added m c t0_0)) (added m c t0_1)) (added m c t0_2)) (added m c t0_3) (ix2 s (col b t)) := by
    rw [result_chain]
    generalize addf (addf (addf (addf zeros (added m c t0_0)) (added m c t0_1)) (added m c t0_2)) (added m c t0_3) = y
    pointwise
    rfl
  rw [e]
  show (((Ideal.ofBits .f32 0x00000000#32 + added m c t0_0 _) + added m c t0_1 _) + added m c t0_2 _) + added m c t0_3 _ = _
  rw [ha, ha, ha, ha, lit_zero, ← EReal.coe_add, ← EReal.coe_add, ← EReal.coe_add, ← EReal.coe_add]
  refine congrArg _ ?_
  have e4 := sum_four 8192 (share X B W s (col b t))
  norm_num only at e4
  rw [e4, zero_add]
  simp only [t0_0, t0_1, t0_2, t0_3]
  norm_num

end

end Cert.KernelIdeal.Ect

end
-- ==== Proof.Scatter.lean ====
/- The reference's accumulation, read at an index: an update lands at the segment its word names, at its own height and
   direction, so an element is the sum of the updates whose word is its segment. -/
module

public import proofs.«01_k».proof.Proof.Gen.ReferenceIdeal.Read
public import proofs.«01_k».proof.Proof.Consts
public import Idealize.ShloMosaic.Lib.Pointwise
public import Idealize.ShloMosaic.Lib.Routing.OpsPair

@[expose] public section

set_option maxRecDepth 16384

noncomputable section

namespace Cert.ReferenceIdeal.Ect

open Idealize.ShloMosaic Cert.ReferenceIdeal Cert.ReferenceIdeal.Gen Cert.ReferenceIdeal.Read Cert.Reals

/-- The accumulation's dimension numbers. -/
abbrev dims : ScatterDims S16x32x32 S32768x1 S32768x32x32 := scatter_S16x32x32_S32768x1_S32768x32x32_12_0_0_1

section
variable (idx : IVec S32768x1 32) (j : S32768x32x32.Idx)

/-- On the segments' axis an update starts at its row's word. -/
theorem start_seg : dims.start j idx 0 = (idx (ix2 (j 0) 0)).toInt := by
  unfold ScatterDims.start
  rw [dif_pos (show (0 : Fin S16x32x32.rank) ∈ dims.scatterDimsToOperandDims by decide)]
  refine congrArg (fun z => (idx z).toInt) ?_
  funext a
  match a with
  | ⟨0, _⟩ => rfl
  | ⟨1, _⟩ => rfl

/-- On the other two axes it starts at nought. -/
theorem start_rest (a : Fin 3) (h : a ≠ 0) : dims.start j idx a = 0 := by
  unfold ScatterDims.start
  refine dif_neg ?_
  revert a; decide

/-- On the segments' axis an update has no extent. -/
theorem window_seg : dims.window j 0 = 0 := by
  unfold ScatterDims.window
  exact dif_neg (by decide)

/-- On the heights' axis an update's place is its height. -/
theorem window_hgt : dims.window j 1 = (j 1).val := by
  unfold ScatterDims.window
  rw [dif_pos (show (1 : Fin S16x32x32.rank) ∈ dims.sKept by decide)]
  rfl

/-- On the directions' axis an update's place is its direction. -/
theorem window_dir : dims.window j 2 = (j 2).val := by
  unfold ScatterDims.window
  rw [dif_pos (show (2 : Fin S16x32x32.rank) ∈ dims.sKept by decide)]
  rfl

/-- A segment's word, read signed, is the segment. -/
theorem word_iff (w : BitVec 32) (s : Fin 16) : w.toInt = (s.val : Int) ↔ w = BitVec.ofNat 32 s.val := by
  have e : (BitVec.ofNat 32 s.val).toInt = (s.val : Int) := by revert s; decide
  rw [← e]
  exact BitVec.toInt_inj

/-- WHERE AN UPDATE LANDS: at its row's segment, its height and its direction. -/
theorem lands_iff (s : Fin 16) (b t : Fin 32) :
    dims.resultIdx? j idx = some (ix3 s b t) ↔ idx (ix2 (j 0) 0) = BitVec.ofNat 32 s.val ∧ j 1 = b ∧ j 2 = t := by
  rw [Routing.resultIdx?_eq_some]
  constructor
  · intro h
    have h0 := h 0
    have h1 := h 1
    have h2 := h 2
    rw [start_seg, window_seg] at h0
    rw [start_rest idx j 1 (by decide), window_hgt] at h1
    rw [start_rest idx j 2 (by decide), window_dir] at h2
    refine ⟨(word_iff _ s).1 (by simpa using h0), Fin.ext ?_, Fin.ext ?_⟩
    · have h1' : (0 : Int) + ((j 1).val : Int) = (b.val : Int) := h1
      omega
    · have h2' : (0 : Int) + ((j 2).val : Int) = (t.val : Int) := h2
      omega
  · rintro ⟨h0, h1, h2⟩ a
    match a with
    | ⟨0, _⟩ =>
      show dims.start j idx 0 + (dims.window j 0 : Int) = (s.val : Int)
      rw [start_seg, window_seg, (word_iff _ s).2 h0]; simp
    | ⟨1, _⟩ =>
      show dims.start j idx 1 + (dims.window j 1 : Int) = (b.val : Int)
      rw [start_rest idx j 1 (by decide), window_hgt, h1]; simp
    | ⟨2, _⟩ =>
      show dims.start j idx 2 + (dims.window j 2 : Int) = (t.val : Int)
      rw [start_rest idx j 2 (by decide), window_dir, h2]; simp

end

/-- THE ACCUMULATION AT AN INDEX: the updates of the rows whose word is the segment, at the index's height and direction. -/
theorem scatter_apply (x : FVec Ideal S16x32x32 .f32) (idx : IVec S32768x1 32) (upd : FVec Ideal S32768x32x32 .f32)
    (s : Fin 16) (b t : Fin 32) :
    Host.scatterAdd dims x idx upd (ix3 s b t)
      = x (ix3 s b t) + ∑ n : Fin 32768, if idx (ix2 n 0) = BitVec.ofNat 32 s.val then upd (ix3 n b t) else 0 := by
  show x (ix3 s b t) + ∑ j ∈ Finset.univ.filter (fun j => dims.resultIdx? j idx = some (ix3 s b t)), upd j = _
  rw [← Finset.sum_filter]
  refine congrArg _ ?_
  refine Finset.sum_nbij' (fun j => j 0) (fun n => ix3 n b t) ?_ ?_ ?_ ?_ ?_
  · intro j hj
    exact Finset.mem_filter.2 ⟨Finset.mem_univ _, ((lands_iff idx j s b t).1 (Finset.mem_filter.1 hj).2).1⟩
  · intro n hn
    exact Finset.mem_filter.2 ⟨Finset.mem_univ _, (lands_iff idx (ix3 n b t) s b t).2 ⟨(Finset.mem_filter.1 hn).2, rfl, rfl⟩⟩
  · intro j hj
    obtain ⟨-, h1, h2⟩ := (lands_iff idx j s b t).1 (Finset.mem_filter.1 hj).2
    funext a
    match a with
    | ⟨0, _⟩ => rfl
    | ⟨1, _⟩ => exact h1.symm
    | ⟨2, _⟩ => exact h2.symm
  · intro n _; rfl
  · intro j hj
    obtain ⟨-, h1, h2⟩ := (lands_iff idx j s b t).1 (Finset.mem_filter.1 hj).2
    refine congrArg upd ?_
    funext a
    match a with
    | ⟨0, _⟩ => rfl
    | ⟨1, _⟩ => exact h1
    | ⟨2, _⟩ => exact h2

end Cert.ReferenceIdeal.Ect

end
-- ==== Proof.Ref.lean ====
/- What the reference computes, read at an index: the sum, over the rows of the index's segment, of the logistic function
   of two hundred times the height minus the row's product with the direction. -/
module

public import proofs.«01_k».proof.Proof.Scatter
public import proofs.«01_k».proof.Proof.Heights
public import proofs.«01_k».proof.Proof.Math

@[expose] public section

set_option maxRecDepth 16384

noncomputable section

namespace Cert.ReferenceIdeal.Ect

open Idealize.ShloMosaic Cert.ReferenceIdeal Cert.ReferenceIdeal.Gen Cert.ReferenceIdeal.Read Cert.Reals

variable (x0 : (⟨S32768x2, .f32⟩ : BufTy).Contents (Elt Ideal)) (x1 : (⟨S32768, .i32⟩ : BufTy).Contents (Elt Ideal))
  (x2 : (⟨S32x2, .f32⟩ : BufTy).Contents (Elt Ideal)) (X : ℕ → Fin 2 → ℝ) (B : ℕ → BitVec 32) (W : Fin 32 → Fin 2 → ℝ)

/-- A row's product with a direction. -/
theorem product_real (hx : ∀ (n : Fin 32768) (k : Fin 2), x0 (ix2 n k) = ((X n.val k : ℝ) : EReal))
    (hv : ∀ (t : Fin 32) (k : Fin 2), x2 (ix2 t k) = ((W t k : ℝ) : EReal)) (n : Fin 32768) (t : Fin 32) :
    val_main_v1 (F := Ideal) x0 x2 (ix2 n t) = ((X n.val 0 * W t 0 + X n.val 1 * W t 1 : ℝ) : EReal) := by
  have e (k : Fin 2) : x0 (lidx_main_v1 (ix2 n t) k) * val_main_v0 (F := Ideal) x2 (ridx_main_v1 (ix2 n t) k)
      = ((X n.val k * W t k : ℝ) : EReal) := by
    have el : lidx_main_v1 (ix2 n t) k = ix2 n k := by
      funext a
      match a with
      | ⟨0, _⟩ => rfl
      | ⟨1, _⟩ => rfl
    have er : idx_main_v0 (ridx_main_v1 (ix2 n t) k) = ix2 t k := by
      funext a
      match a with
      | ⟨0, _⟩ => rfl
      | ⟨1, _⟩ => rfl
    rw [val_main_v0_apply, el, er, hx, hv, ← EReal.coe_mul]
  rw [val_main_v1_apply, Fin.sum_univ_two, e, e, ← EReal.coe_add]

/-- The sharpened logistic function at a height, a row and a direction. -/
theorem update_real (hx : ∀ (n : Fin 32768) (k : Fin 2), x0 (ix2 n k) = ((X n.val k : ℝ) : EReal))
    (hv : ∀ (t : Fin 32) (k : Fin 2), x2 (ix2 t k) = ((W t k : ℝ) : EReal)) (n : Fin 32768) (b t : Fin 32) :
    val_main_v16 (F := Ideal) x0 x2 (ix3 n b t)
      = ((sigma (200 * (height b - (X n.val 0 * W t 0 + X n.val 1 * W t 1))) : ℝ) : EReal) := by
  have e0 : idx_main_v16 (ix3 n b t) = ix3 b n t := by
    funext a
    match a with
    | ⟨0, _⟩ => rfl
    | ⟨1, _⟩ => rfl
    | ⟨2, _⟩ => rfl
  have e5 : val_main_v5 (F := Ideal) (ix3 b n t) = (height b : EReal) := by
    rw [val_main_v5_apply, val_main_v3_apply]
    refine Eq.trans (congrArg _ ?_) (height_spec b)
    funext a
    match a with
    | ⟨0, _⟩ => exact Fin.ext (by simp)
  have e6 : val_main_v6 (F := Ideal) x0 x2 (ix3 b n t) = ((X n.val 0 * W t 0 + X n.val 1 * W t 1 : ℝ) : EReal) := by
    rw [val_main_v6_apply, val_main_v4_apply]
    refine Eq.trans (congrArg _ ?_) (product_real x0 x2 X W hx hv n t)
    funext a
    match a with
    | ⟨0, _⟩ => rfl
    | ⟨1, _⟩ => rfl
  rw [val_main_v16_apply, e0, val_main_v15_apply, val_main_v14_apply, val_main_v13_apply, val_main_v12_apply, val_main_v11_apply,
    val_main_v10_apply, val_main_v9_apply, val_main_v8_apply, val_main_v7_apply, e5, e6]
  show Ideal.div (Ideal.ofBits .f32 0x3F800000#32) (Ideal.ofBits .f32 0x3F800000#32
    + Ideal.exp (-(Ideal.ofBits .f32 0x43480000#32 * ((height b : EReal) - ((X n.val 0 * W t 0 + X n.val 1 * W t 1 : ℝ) : EReal))))) = _
  rw [lit_one, lit_two_hundred, ← EReal.coe_sub, ← EReal.coe_mul, ← EReal.coe_neg, Ideal.exp_coe, ← EReal.coe_add,
    Ideal.div_coe (by positivity), ← EReal.coe_mul, one_mul]
  rfl

/-- THE REFERENCE'S RESULT: the sum over the rows of the segment. -/
theorem result_real (hx : ∀ (n : Fin 32768) (k : Fin 2), x0 (ix2 n k) = ((X n.val k : ℝ) : EReal))
    (hb : ∀ n : Fin 32768, x1 (ix1 n) = B n.val)
    (hv : ∀ (t : Fin 32) (k : Fin 2), x2 (ix2 t k) = ((W t k : ℝ) : EReal)) (s : Fin 16) (b t : Fin 32) :
    val_main_v19 (F := Ideal) x0 x1 x2 (ix3 s b t)
      = ((∑ n ∈ Finset.range 32768, (if B n = BitVec.ofNat 32 s.val then 1 else 0)
          * sigma (200 * (height b - (X n 0 * W t 0 + X n 1 * W t 1))) : ℝ) : EReal) := by
  unfold val_main_v19
  rw [scatter_apply]
  have e17 : val_main_v17 (F := Ideal) (ix3 s b t) = ((0 : ℝ) : EReal) := by
    rw [val_main_v17_apply]; exact lit_zero
  rw [e17, EReal.coe_zero, zero_add, Finset.sum_range, coe_sum]
  refine Finset.sum_congr rfl fun n _ => ?_
  have e18 : val_main_v18 (F := Ideal) x1 (ix2 n 0) = B n.val := by
    rw [val_main_v18_apply]
    refine Eq.trans (congrArg x1 ?_) (hb n)
    funext a
    match a with
    | ⟨0, _⟩ => rfl
  rw [e18, update_real x0 x2 X W hx hv n b t]
  by_cases h : B n.val = BitVec.ofNat 32 s.val
  · rw [if_pos h, if_pos h, one_mul]
  · rw [if_neg h, if_neg h, zero_mul, EReal.coe_zero]

end Cert.ReferenceIdeal.Ect

end
-- ==== Proof.Pre.lean ====
/- The precondition read: every coordinate of the points and of the directions is a real number. -/
module

public import proofs.«01_k».proof.Proof.Gen.Pre_finite
public import proofs.«01_k».proof.Proof.Consts
public import Idealize.ShloMosaic.Lib.ReduceAll

@[expose] public section

set_option maxRecDepth 16384

noncomputable section

namespace Cert.Pre_finite.Ect

open Idealize.ShloMosaic Cert.Pre_finite Cert.Pre_finite.Gen Cert.Reals

/-- An extended real whose absolute value is below the largest one is a real number. -/
theorem real_of_lt (z : EReal) (h : Ideal.cmp .olt (max z (-z)) (Ideal.ofBits .f32 0x7F800000#32) = 1#1) : ∃ r : ℝ, z = (r : EReal) := by
  rw [lit_top] at h
  have hlt : max z (-z) < ⊤ := by
    by_contra hn
    have e : Ideal.cmp .olt (max z (-z)) ⊤ = 0#1 := by
      show BitVec.ofBool (decide (max z (-z) < ⊤)) = 0#1
      rw [decide_eq_false hn]; rfl
    rw [e] at h
    exact absurd h (by decide)
  induction z with
  | bot => simp at hlt
  | top => simp at hlt
  | coe r => exact ⟨r, rfl⟩

/-- Under the precondition every coordinate of the points, and of the directions, is a real number. -/
theorem reals (x0 : FVec Ideal S32768x2 .f32) (x1 : IVec S32768 32) (x2 : FVec Ideal S32x2 .f32)
    (h : fn (F := Ideal) x0 x1 x2 = fun _ => 1#1) :
    (∀ i, ∃ r : ℝ, x0 i = (r : EReal)) ∧ ∀ i, ∃ r : ℝ, x2 i = (r : EReal) := by
  have e := congrFun h fun a => a.elim0
  dsimp only [fn] at e
  obtain ⟨e0, e2⟩ := IntOp.andi_eq_one.1 e
  haveI : Subsingleton S_.Idx := ⟨fun a b => funext fun i => i.elim0⟩
  refine ⟨fun i => real_of_lt _ ?_, fun i => real_of_lt _ ?_⟩
  · exact Host.reduce_andi_all _ _ _ _ _ e0 i
  · exact Host.reduce_andi_all _ _ _ _ _ e2 i

end Cert.Pre_finite.Ect

end
-- ==== Proof.Equation.lean ====
/- The equation: on arguments the precondition admits, the kernel's result is the reference's. -/
module

public import proofs.«01_k».proof.Proof.Accum
public import proofs.«01_k».proof.Proof.Ref
public import proofs.«01_k».proof.Proof.Pre

@[expose] public section

set_option maxRecDepth 16384

noncomputable section

namespace Cert.Equation

open Idealize.ShloMosaic Idealize.ShloMosaic.TcCoe Cert.Reals
open Cert.KernelIdeal Cert.KernelIdeal.Gen Cert.KernelIdeal.Value

/-- A row's share in the kernel's sum is its share in the reference's. -/
theorem share_eq (X : ℕ → Fin 2 → ℝ) (B : ℕ → BitVec 32) (W : Fin 32 → Fin 2 → ℝ) (s : Fin 16) (b t : Fin 32) (n : ℕ) :
    Cert.KernelIdeal.Ect.share X B W s (Cert.KernelIdeal.Ect.col b t) n
      = (if B n = BitVec.ofNat 32 s.val then 1 else 0)
        * sigma (200 * (Cert.ReferenceIdeal.Ect.height b - (X n 0 * W t 0 + X n 1 * W t 1))) := by
  have hd : Cert.KernelIdeal.Ect.dir (Cert.KernelIdeal.Ect.col b t) = t :=
    Fin.ext (show (b.val * 32 + t.val) % 32 = t.val by omega)
  have hh : Cert.KernelIdeal.Ect.hgt (Cert.KernelIdeal.Ect.col b t) = b :=
    Fin.ext (show (b.val * 32 + t.val) / 32 = b.val by omega)
  unfold Cert.KernelIdeal.Ect.share Cert.KernelIdeal.Ect.hit Cert.KernelIdeal.Ect.arg
  rw [hd, hh]
  congr 2
  ring

/-- THE KERNEL'S RESULT IS THE REFERENCE'S, on finite points and directions and any segments. -/
theorem result_eq (m : (ℓ : Loc nD τ sig) → Buf (Elt Ideal) ℓ) (c : Dev nD)
    (h : Cert.Pre_finite.fn (F := Ideal) (m ((c : Thread nD τ).loc main_arg0)) (m ((c : Thread nD τ).loc main_arg1))
      (m ((c : Thread nD τ).loc main_arg2)) = fun _ => 1#1) :
    Cert.ReferenceIdeal.Read.val_main_v19 (F := Ideal) (m ((c : Thread nD τ).loc main_arg0)) (m ((c : Thread nD τ).loc main_arg1))
      (m ((c : Thread nD τ).loc main_arg2)) = (G5 m c : S16x32x32.Idx → EReal) := by
  obtain ⟨h0, h2⟩ := Cert.Pre_finite.Ect.reals _ _ _ h
  choose x hx using h0
  choose v hv using h2
  let X : ℕ → Fin 2 → ℝ := fun n k => if hn : n < 32768 then x (ix2 ⟨n, hn⟩ k) else 0
  let y : Fin 32768 → BitVec 32 := fun n => m ((c : Thread nD τ).loc main_arg1) (ix1 n)
  let B : ℕ → BitVec 32 := fun n => if hn : n < 32768 then y ⟨n, hn⟩ else 0
  let W : Fin 32 → Fin 2 → ℝ := fun t k => v (ix2 t k)
  have eX (n : Fin 32768) (k : Fin 2) : m ((c : Thread nD τ).loc main_arg0) (ix2 n k) = ((X n.val k : ℝ) : EReal) := by
    rw [show X n.val k = x (ix2 n k) from dif_pos n.isLt]; exact hx _
  have eB (n : Fin 32768) : m ((c : Thread nD τ).loc main_arg1) (ix1 n) = B n.val := by
    rw [show B n.val = y n from dif_pos n.isLt]
  have eW (t : Fin 32) (k : Fin 2) : m ((c : Thread nD τ).loc main_arg2) (ix2 t k) = ((W t k : ℝ) : EReal) := hv _
  funext i
  have ei : i = ix3 (i 0) (i 1) (i 2) := by
    funext a
    match a with
    | ⟨0, _⟩ => rfl
    | ⟨1, _⟩ => rfl
    | ⟨2, _⟩ => rfl
  rw [ei]
  refine (Cert.ReferenceIdeal.Ect.result_real _ _ _ X B W eX eB eW (i 0) (i 1) (i 2)).trans ?_
  refine Eq.trans ?_ (Cert.KernelIdeal.Ect.result_real m c X B W eX eB eW (i 0) (i 1) (i 2)).symm
  exact congrArg _ (Finset.sum_congr rfl fun n _ => (share_eq X B W (i 0) (i 1) (i 2) n).symm)

end Cert.Equation

end
-- ==== Proof.lean ====
/- The certificate: both frames of the kernel, the reference's frame, and the equality of the two results over the extended
   reals under the precondition, put together from the modules under `Proof/`. -/
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its arguments and ends quiescent. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, on arguments that agree and that the precondition admits. -/
theorem results_agree : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2⟩ := hagree c
  rw [(h c).1]
  refine (Cert.ReferenceIdeal.Read.val_main_v19_eq (F := Ideal) _ _ _).trans ?_
  rw [h0, h1, h2]
  exact Cert.Equation.result_eq m c (hpre c)

/-- Everything claimed. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ, reference_frame, fun m ρ _ => reference_frame m ρ trivial, (trivial : preserves_Kernel_KernelIdeal), results_agree⟩

end Cert.Proof

end
